-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)) (v3 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_v7) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_v14) = v2 c
          ∧ r.2.mem ((c.tc : Thread Cert.ReferenceIdeal.nD Cert.ReferenceIdeal.τ).loc Cert.ReferenceIdeal.main_v19) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x8192x768 : Shape := ⟨3, ![4, 8192, 768]⟩
abbrev S16x768 : Shape := ⟨2, ![16, 768]⟩
abbrev S16 : Shape := ⟨1, ![16]⟩
abbrev S15x768 : Shape := ⟨2, ![15, 768]⟩
abbrev S15 : Shape := ⟨1, ![15]⟩
abbrev S_ : Shape := ⟨0, ![]⟩
abbrev S1 : Shape := ⟨1, ![1]⟩
abbrev S64 : Shape := ⟨1, ![64]⟩
abbrev S64x1 : Shape := ⟨2, ![64, 1]⟩
abbrev S4x16x8192 : Shape := ⟨3, ![4, 16, 8192]⟩
abbrev S4x15x8192 : Shape := ⟨3, ![4, 15, 8192]⟩
abbrev S1x4096x768 : Shape := ⟨3, ![1, 4096, 768]⟩
abbrev S1x16x4096 : Shape := ⟨3, ![1, 16, 4096]⟩
abbrev S1x15x4096 : Shape := ⟨3, ![1, 15, 4096]⟩
abbrev S64x768 : Shape := ⟨2, ![64, 768]⟩
abbrev S1x768 : Shape := ⟨2, ![1, 768]⟩
abbrev S4096x768 : Shape := ⟨2, ![4096, 768]⟩
abbrev S64x4096 : Shape := ⟨2, ![64, 4096]⟩
abbrev S16x4096 : Shape := ⟨2, ![16, 4096]⟩
abbrev S15x4096 : Shape := ⟨2, ![15, 4096]⟩
abbrev S4x8192x16 : Shape := ⟨3, ![4, 8192, 16]⟩
abbrev S4x8192x15 : Shape := ⟨3, ![4, 8192, 15]⟩

abbrev nBuf : Space → Nat
  | .hbm => 21
  | .vmem => 16
  | .smem => 0
  | _ => 0

abbrev bufTy : (tb : Table) → Fin (tcTables nBuf tb) → BufTy
  | .hbm, ⟨0, _⟩ => ⟨S4x8192x768, .f32⟩
  | .hbm, ⟨1, _⟩ => ⟨S16x768, .f32⟩
  | .hbm, ⟨2, _⟩ => ⟨S16, .f32⟩
  | .hbm, ⟨3, _⟩ => ⟨S16x768, .f32⟩
  | .hbm, ⟨4, _⟩ => ⟨S16, .f32⟩
  | .hbm, ⟨5, _⟩ => ⟨S15x768, .f32⟩
  | .hbm, ⟨6, _⟩ => ⟨S15, .f32⟩
  | .hbm, ⟨7, _⟩ => ⟨S16x768, .f32⟩
  | .hbm, ⟨8, _⟩ => ⟨S16, .f32⟩
  | .hbm, ⟨9, _⟩ => ⟨S_, .f32⟩
  | .hbm, ⟨10, _⟩ => ⟨S1, .f32⟩
  | .hbm, ⟨11, _⟩ => ⟨S64, .f32⟩
  | .hbm, ⟨12, _⟩ => ⟨S64x1, .f32⟩
  | .hbm, ⟨13, _⟩ => ⟨S4x16x8192, .f32⟩
  | .hbm, ⟨14, _⟩ => ⟨S4x16x8192, .f32⟩
  | .hbm, ⟨15, _⟩ => ⟨S4x16x8192, .f32⟩
  | .hbm, ⟨16, _⟩ => ⟨S4x15x8192, .f32⟩
  | .hbm, ⟨17, _⟩ => ⟨S4x8192x16, .f32⟩
  | .hbm, ⟨18, _⟩ => ⟨S4x8192x16, .f32⟩
  | .hbm, ⟨19, _⟩ => ⟨S4x8192x15, .f32⟩
  | .hbm, ⟨20, _⟩ => ⟨S4x8192x16, .f32⟩
  | .local _ .vmem, ⟨0, _⟩ => ⟨S1x4096x768, .f32⟩
  | .local _ .vmem, ⟨1, _⟩ => ⟨S1x4096x768, .f32⟩
  | .local _ .vmem, ⟨2, _⟩ => ⟨S16x768, .f32⟩
  | .local _ .vmem, ⟨3, _⟩ => ⟨S16x768, .f32⟩
  | .local _ .vmem, ⟨4, _⟩ => ⟨S16x768, .f32⟩
  | .local _ .vmem, ⟨5, _⟩ => ⟨S15x768, .f32⟩
  | .local _ .vmem, ⟨6, _⟩ => ⟨S64x1, .f32⟩
  | .local _ .vmem, ⟨7, _⟩ => ⟨S1x16x4096, .f32⟩
  | .local _ .vmem, ⟨8, _⟩ => ⟨S1x16x4096, .f32⟩
  | .local _ .vmem, ⟨9, _⟩ => ⟨S1x16x4096, .f32⟩
  | .local _ .vmem, ⟨10, _⟩ => ⟨S1x16x4096, .f32⟩
  | .local _ .vmem, ⟨11, _⟩ => ⟨S1x16x4096, .f32⟩
  | .local _ .vmem, ⟨12, _⟩ => ⟨S1x16x4096, .f32⟩
  | .local _ .vmem, ⟨13, _⟩ => ⟨S1x15x4096, .f32⟩
  | .local _ .vmem, ⟨14, _⟩ => ⟨S1x15x4096, .f32⟩
  | .local _ .vmem, ⟨15, _⟩ => ⟨S64x768, .f32⟩
  | _, _ => ⟨S4x8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3_0 : Ref sig .tc := ⟨.hbm, 13, rfl⟩
abbrev main_v3_1 : Ref sig .tc := ⟨.hbm, 14, rfl⟩
abbrev main_v3_2 : Ref sig .tc := ⟨.hbm, 15, rfl⟩
abbrev main_v3_3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4096x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S16x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S16x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S15x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x16x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x16x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x16x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x15x4096 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S4x8192x768 : Shape := ⟨3, ![4, 8192, 768]⟩
abbrev S16x768 : Shape := ⟨2, ![16, 768]⟩
abbrev S16 : Shape := ⟨1, ![16]⟩
abbrev S15x768 : Shape := ⟨2, ![15, 768]⟩
abbrev S15 : Shape := ⟨1, ![15]⟩
abbrev S768x16 : Shape := ⟨2, ![768, 16]⟩
abbrev S4x8192x16 : Shape := ⟨3, ![4, 8192, 16]⟩
abbrev S1x1x16 : Shape := ⟨3, ![1, 1, 16]⟩
abbrev S768x15 : Shape := ⟨2, ![768, 15]⟩
abbrev S4x8192x15 : Shape := ⟨3, ![4, 8192, 15]⟩
abbrev S1x1x15 : Shape := ⟨3, ![1, 1, 15]⟩

abbrev nBuf : Space → Nat
  | .hbm => 29
  | .vmem => 0
  | .smem => 0
  | _ => 0

abbrev bufTy : (tb : Table) → Fin (tcTables nBuf tb) → BufTy
  | .hbm, ⟨0, _⟩ => ⟨S4x8192x768, .f32⟩
  | .hbm, ⟨1, _⟩ => ⟨S16x768, .f32⟩
  | .hbm, ⟨2, _⟩ => ⟨S16, .f32⟩
  | .hbm, ⟨3, _⟩ => ⟨S16x768, .f32⟩
  | .hbm, ⟨4, _⟩ => ⟨S16, .f32⟩
  | .hbm, ⟨5, _⟩ => ⟨S15x768, .f32⟩
  | .hbm, ⟨6, _⟩ => ⟨S15, .f32⟩
  | .hbm, ⟨7, _⟩ => ⟨S16x768, .f32⟩
  | .hbm, ⟨8, _⟩ => ⟨S16, .f32⟩
  | .hbm, ⟨9, _⟩ => ⟨S768x16, .f32⟩
  | .hbm, ⟨10, _⟩ => ⟨S4x8192x16, .f32⟩
  | .hbm, ⟨11, _⟩ => ⟨S1x1x16, .f32⟩
  | .hbm, ⟨12, _⟩ => ⟨S4x8192x16, .f32⟩
  | .hbm, ⟨13, _⟩ => ⟨S4x8192x16, .f32⟩
  | .hbm, ⟨14, _⟩ => ⟨S768x16, .f32⟩
  | .hbm, ⟨15, _⟩ => ⟨S4x8192x16, .f32⟩
  | .hbm, ⟨16, _⟩ => ⟨S1x1x16, .f32⟩
  | .hbm, ⟨17, _⟩ => ⟨S4x8192x16, .f32⟩
  | .hbm, ⟨18, _⟩ => ⟨S4x8192x16, .f32⟩
  | .hbm, ⟨19, _⟩ => ⟨S768x15, .f32⟩
  | .hbm, ⟨20, _⟩ => ⟨S4x8192x15, .f32⟩
  | .hbm, ⟨21, _⟩ => ⟨S1x1x15, .f32⟩
  | .hbm, ⟨22, _⟩ => ⟨S4x8192x15, .f32⟩
  | .hbm, ⟨23, _⟩ => ⟨S4x8192x15, .f32⟩
  | .hbm, ⟨24, _⟩ => ⟨S768x16, .f32⟩
  | .hbm, ⟨25, _⟩ => ⟨S4x8192x16, .f32⟩
  | .hbm, ⟨26, _⟩ => ⟨S1x1x16, .f32⟩
  | .hbm, ⟨27, _⟩ => ⟨S4x8192x16, .f32⟩
  | .hbm, ⟨28, _⟩ => ⟨S4x8192x16, .f32⟩
  | _, _ => ⟨S4x8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== Proof.Stack.lean ====
/-
  THE STACKED HEADS, read at an index.

  The kernel keeps the four heads' weights in one 64 x 768 scratch array: rows 0 to 15 hold the widths' weights, rows
  16 to 31 the heights', rows 32 to 47 the lambdas', rows 48 to 62 the derivatives', and row 63 holds zeros. At every
  grid point it multiplies that array by the point's block of `conditioning`, adds the stacked biases, and cuts the 64
  rows of the product back into the four heads.

  `stack` is the scratch array as a function of the four weight matrices, with one reading lemma per head. `product_apply`
  reads the product with its bias at a row and a column; `slice_w`, `slice_h`, `slice_l` and `slice_d` read the values stored.
-/
module

public import proofs.«01_k».proof.Proof.Gen.KernelIdeal.Skeleton
public import Idealize.ShloMosaic.Lib.Pipeline.Value
public import Idealize.ShloMosaic.Lib.MatmulPlain
public import Idealize.ShloMosaic.Lib.ValueIdx
public import Idealize.ShloMosaic.PureOps.Ideal.Laws

@[expose] public section

set_option maxRecDepth 16384

noncomputable section

open Idealize.ShloMosaic Idealize.ShloMosaic.TcCoe Idealize.SL.Sem
open Idealize.ShloMosaic.ValueIdx

namespace Cert.KernelIdeal.Stack

open Cert.KernelIdeal Cert.KernelIdeal.Gen

variable {F : FTy → Type} [FloatOps F]

/-! ## The stacked weights -/

/-- The stacked weights: the four heads' matrices one below the other, and a last row of zeros. -/
def stack (w h l : Vec F S16x768 .f32) (d : Vec F S15x768 .f32) : Vec F S64x768 .f32 := fun i =>
  if h0 : (i 0).val < 16 then w (ix2 ⟨(i 0).val, h0⟩ (i 1))
  else if h1 : (i 0).val < 32 then h (ix2 ⟨(i 0).val - 16, by omega⟩ (i 1))
  else if h2 : (i 0).val < 48 then l (ix2 ⟨(i 0).val - 32, by omega⟩ (i 1))
  else if h3 : (i 0).val < 63 then d (ix2 ⟨(i 0).val - 48, by omega⟩ (i 1))
  else k0_pay5 (ix2 0 (i 1))

variable (w h l : Vec F S16x768 .f32) (d : Vec F S15x768 .f32)

/-- Rows 0 to 15 of the stack are the widths' weights. -/
theorem stack_w (i : S64x768.Idx) (r : Fin 16) (k : Fin 768) (hr : (i 0).val = 0 + r.val) (hk : (i 1).val = k.val) :
    stack w h l d i = w (ix2 r k) := by
  have h0 : (i 0).val < 16 := by omega
  unfold stack
  rw [dif_pos h0]
  exact congrArg w (funext fun a => Fin.ext (match a with | ⟨0, _⟩ => by show (i 0).val = r.val; omega | ⟨1, _⟩ => hk))

/-- Rows 16 to 31 of the stack are the heights' weights. -/
theorem stack_h (i : S64x768.Idx) (r : Fin 16) (k : Fin 768) (hr : (i 0).val = 16 + r.val) (hk : (i 1).val = k.val) :
    stack w h l d i = h (ix2 r k) := by
  have h0 : ¬ (i 0).val < 16 := by omega
  have h1 : (i 0).val < 32 := by omega
  unfold stack
  rw [dif_neg h0, dif_pos h1]
  exact congrArg h (funext fun a => Fin.ext (match a with | ⟨0, _⟩ => by show (i 0).val - 16 = r.val; omega | ⟨1, _⟩ => hk))

/-- Rows 32 to 47 of the stack are the lambdas' weights. -/
theorem stack_l (i : S64x768.Idx) (r : Fin 16) (k : Fin 768) (hr : (i 0).val = 32 + r.val) (hk : (i 1).val = k.val) :
    stack w h l d i = l (ix2 r k) := by
  have h0 : ¬ (i 0).val < 16 := by omega
  have h1 : ¬ (i 0).val < 32 := by omega
  have h2 : (i 0).val < 48 := by omega
  unfold stack
  rw [dif_neg h0, dif_neg h1, dif_pos h2]
  exact congrArg l (funext fun a => Fin.ext (match a with | ⟨0, _⟩ => by show (i 0).val - 32 = r.val; omega | ⟨1, _⟩ => hk))

/-- Rows 48 to 62 of the stack are the derivatives' weights. -/
theorem stack_d (i : S64x768.Idx) (r : Fin 15) (k : Fin 768) (hr : (i 0).val = 48 + r.val) (hk : (i 1).val = k.val) :
    stack w h l d i = d (ix2 r k) := by
  have h0 : ¬ (i 0).val < 16 := by omega
  have h1 : ¬ (i 0).val < 32 := by omega
  have h2 : ¬ (i 0).val < 48 := by omega
  have h3 : (i 0).val < 63 := by omega
  unfold stack
  rw [dif_neg h0, dif_neg h1, dif_neg h2, dif_pos h3]
  exact congrArg d (funext fun a => Fin.ext (match a with | ⟨0, _⟩ => by show (i 0).val - 48 = r.val; omega | ⟨1, _⟩ => hk))

/-- Row 63 of the stack is the row of zeros. -/
theorem stack_z (i : S64x768.Idx) (r : Fin 1) (k : Fin 768) (hr : (i 0).val = 63 + r.val) (hk : (i 1).val = k.val) :
    stack w h l d i = k0_pay5 (ix2 r k) := by
  have h0 : ¬ (i 0).val < 16 := by omega
  have h1 : ¬ (i 0).val < 32 := by omega
  have h2 : ¬ (i 0).val < 48 := by omega
  have h3 : ¬ (i 0).val < 63 := by omega
  unfold stack
  rw [dif_neg h0, dif_neg h1, dif_neg h2, dif_neg h3]
  exact congrArg k0_pay5 (funext fun a => Fin.ext (match a with | ⟨0, _⟩ => by show 0 = r.val; omega | ⟨1, _⟩ => hk))

/-! ## The four values stored, as rows of the product -/

/-- A run of rows of a 64 x 4096 array under a leading axis of size one, read at an index: `off` rows further down. -/
theorem slice_apply {n : Nat} (off : Nat) (X : Vec F S64x4096 .f32) (hs : S64x4096.Slices ![off, 0] ⟨2, ![n, 4096]⟩)
    (hc : (⟨2, ![n, 4096]⟩ : Shape).ShapeCasts ⟨3, ![1, n, 4096]⟩) (j : (⟨3, ![1, n, 4096]⟩ : Shape).Idx)
    (R : Fin 64) (hR : R.val = off + (j 1).val) :
    shapeCast ⟨3, ![1, n, 4096]⟩ (extractStridedSlice ⟨2, ![n, 4096]⟩ ![off, 0] X hs) hc j = X (ix2 R (j 2)) := by
  refine (shapeCast_addUnit_apply ![n, 4096] _ hc j).trans (extractStridedSlice_apply _ _ hs _ _ fun a => ?_)
  match a with
  | ⟨0, _⟩ => exact hR
  | ⟨1, _⟩ => exact (Nat.zero_add _).symm

variable (s : Vec F S64x768 .f32) (x : Vec F S1x4096x768 .f32) (b : Vec F S64x1 .f32)

/-- The widths' block is rows 0 to 15 of the product. -/
theorem slice_w (j : S1x16x4096.Idx) (R : Fin 64) (hR : R.val = 0 + (j 1).val) :
    k0_pay7 s x b j = k0_pay6 s x b (ix2 R (j 2)) := slice_apply 0 _ _ _ j R hR

/-- The heights' block is rows 16 to 31 of the product. -/
theorem slice_h (j : S1x16x4096.Idx) (R : Fin 64) (hR : R.val = 16 + (j 1).val) :
    k0_pay8 s x b j = k0_pay6 s x b (ix2 R (j 2)) := slice_apply 16 _ _ _ j R hR

/-- The lambdas' block is rows 32 to 47 of the product. -/
theorem slice_l (j : S1x16x4096.Idx) (R : Fin 64) (hR : R.val = 32 + (j 1).val) :
    k0_pay9 s x b j = k0_pay6 s x b (ix2 R (j 2)) := slice_apply 32 _ _ _ j R hR

/-- The derivatives' block is rows 48 to 62 of the product. -/
theorem slice_d (j : S1x15x4096.Idx) (R : Fin 64) (hR : R.val = 48 + (j 1).val) :
    k0_pay10 s x b j = k0_pay6 s x b (ix2 R (j 2)) := slice_apply 48 _ _ _ j R hR

/-! ## The product with its bias, over the extended reals -/

/-- The product at row `R` and column `y`: the sum over the 768 channels of weight times input, plus the row's bias. -/
theorem product_apply (s : Vec Ideal S64x768 .f32) (x : Vec Ideal S1x4096x768 .f32) (b : Vec Ideal S64x1 .f32)
    (R : Fin 64) (y : Fin 4096) :
    k0_pay6 s x b (ix2 R y) = (∑ k : Fin 768, s (ix2 R k) * x (ix3 0 y k)) + b (ix2 R 0) := by
  have hx : ∀ k : Fin 768, shapeCast S4096x768 x shapeCasts_S1x4096x768_S4096x768 (ix2 y k) = x (ix3 0 y k) := fun k =>
    (shapeCast_dropUnit_apply ![4096, 768] x shapeCasts_S1x4096x768_S4096x768 (ix2 y k)).trans
      (congrArg x (funext fun a => match a with | ⟨0, _⟩ => rfl | ⟨1, _⟩ => rfl | ⟨2, _⟩ => rfl))
  have hb : broadcastTo S64x4096 (shapeCast S64x1 b shapeCasts_S64x1_S64x1) broadcasts_S64x1_S64x4096 (ix2 R y) = b (ix2 R 0) := by
    rw [shapeCast_self]
    exact broadcastTo_apply _ _ _ _ fun a => match a with | ⟨0, _⟩ => rfl | ⟨1, _⟩ => rfl
  have hm : FloatOps.matmul (F := Ideal) (φ₁ := .f32) (φ₂ := .f32) dot_S64x768_S4096x768_S64x4096_1_1_0_0_n_n none (s : FVec Ideal S64x768 .f32)
      (shapeCast S4096x768 x shapeCasts_S1x4096x768_S4096x768 : FVec Ideal S4096x768 .f32) (constant S64x4096 .f32 0x00000000#32) (ix2 R y)
      = ∑ k : Fin 768, s (ix2 R k) * x (ix3 0 y k) := by
    refine (Ideal.matmul_transposedRhs_apply (φ₁ := .f32) (φ₂ := .f32) none (s : FVec Ideal S64x768 .f32)
      (shapeCast S4096x768 x shapeCasts_S1x4096x768_S4096x768 : FVec Ideal S4096x768 .f32) (constant S64x4096 .f32 0x00000000#32) R y).trans ?_
    show Ideal.ofBits .f32 0x00000000#32 + _ = _
    rw [Ideal.ofBits_zero_f32, zero_add]
    exact Finset.sum_congr rfl fun k _ => by rw [hx k]
  exact congrArg₂ (· + ·) hm hb

end Cert.KernelIdeal.Stack

end
-- ==== Proof.Body.lean ====
/-
  WHAT THE KERNEL BODY LEAVES BEHIND AT ONE GRID POINT.

  The body has two cases. At the first point of the grid it fills the scratch array with the stacked weights and then
  computes; at every other point it computes with the scratch array as it finds it. Each of the four outputs is stored
  once, over the whole block, so the block ends as the value stored. The scratch array is filled by five stores that
  together cover it, so it ends as `stack` of the four weight matrices.
-/
module

public import proofs.«01_k».proof.Proof.Gen.KernelIdeal.Frame
public import proofs.«01_k».proof.Proof.Stack

@[expose] public section

set_option maxRecDepth 16384

noncomputable section

open Idealize.ShloMosaic Idealize.ShloMosaic.TcCoe Idealize.SL.Sem
open Idealize.ShloMosaic.ValueIdx

namespace Cert.KernelIdeal.Body

open Cert.KernelIdeal Cert.KernelIdeal.Gen Cert.KernelIdeal.Stack

variable {F : FTy → Type} [FloatOps F]

/-- Offsets that are zero on both axes. -/
theorem hz2 : (![0, 0] : Fin 2 → Nat) = fun _ => 0 := funext fun a => by fin_cases a <;> rfl

/-- Offsets that are zero on all three axes. -/
theorem hz3 : (![0, 0, 0] : Fin 3 → Nat) = fun _ => 0 := funext fun a => by fin_cases a <;> rfl

/-! ## The five stores that fill the scratch array -/

/-- The stores of the first point, last one first: the zero row, then the derivatives', lambdas', heights' and widths'
    weights, each at its own run of rows. -/
abbrev fill (w h l : Vec F S16x768 .f32) (d : Vec F S15x768 .f32) : List (View.Piece (Elt F) S64x768 .f32) :=
  [⟨Rect.unit ![63, 0] S1x768.size inb_S64x768_S1x768_63_0, k0_pay5⟩,
   ⟨Rect.unit ![48, 0] S15x768.size inb_S64x768_S15x768_48_0, d⟩,
   ⟨Rect.unit ![32, 0] S16x768.size inb_S64x768_S16x768_32_0, l⟩,
   ⟨Rect.unit ![16, 0] S16x768.size inb_S64x768_S16x768_16_0, h⟩,
   ⟨Rect.unit ![0, 0] S16x768.size inb_S64x768_S16x768_0_0, w⟩]

/-- Every element of the scratch array is in one of the five runs of rows. -/
theorem fill_cover (w h l : Vec F S16x768 .f32) (d : Vec F S15x768 .f32) (y : S64x768.Idx) :
    ∃ p ∈ fill w h l d, y ∈ p.1.set :=
  View.cover_of_tiledBy (fill w h l d) ![1, 768] (by sl_kernel_rfl) y

/-- The five stores leave the stacked weights. -/
theorem canon_fill (w h l : Vec F S16x768 .f32) (d : Vec F S15x768 .f32) : View.canon (fill w h l d) = stack w h l d := by
  funext y
  refine View.canon_apply_of_pieces (stack w h l d) _ (fun p hp => ?_) y (fill_cover w h l d y)
  have col : ∀ n : Nat, 0 + 1 * n = n := fun n => by omega
  simp only [List.mem_cons, List.not_mem_nil, or_false] at hp
  rcases hp with rfl | rfl | rfl | rfl | rfl <;> intro x
  · exact (congrArg k0_pay5 (eq_ix2 x)).trans (stack_z w h l d _ (x 0) (x 1) (congrArg (63 + ·) (Nat.one_mul _)) (col _)).symm
  · exact (congrArg d (eq_ix2 x)).trans (stack_d w h l d _ (x 0) (x 1) (congrArg (48 + ·) (Nat.one_mul _)) (col _)).symm
  · exact (congrArg l (eq_ix2 x)).trans (stack_l w h l d _ (x 0) (x 1) (congrArg (32 + ·) (Nat.one_mul _)) (col _)).symm
  · exact (congrArg h (eq_ix2 x)).trans (stack_h w h l d _ (x 0) (x 1) (congrArg (16 + ·) (Nat.one_mul _)) (col _)).symm
  · exact (congrArg w (eq_ix2 x)).trans (stack_w w h l d _ (x 0) (x 1) (congrArg (0 + ·) (Nat.one_mul _)) (col _)).symm

/-- Reading the whole scratch array back after the five stores gives the stacked weights. -/
theorem readCov_fill {sp : Space} (v : View sig .tc sp S64x768 .f32) (w h l : Vec F S16x768 .f32) (d : Vec F S15x768 .f32) :
    v.readCov (fill w h l d) (Rect.unit ![0, 0] S64x768.size inb_S64x768_S64x768_0_0).toLoadRect = stack w h l d := by
  rw [View.readCov_eq_canon_ld _ _ _ (fill_cover w h l d), canon_fill]
  exact View.ld_unit_zero (S := S64x768) hz2 _ _

/-! ## The two cases of the body -/

/-- What a point leaves when it computes with scratch contents `s`, input block `x` and biases `b`: the widths', heights',
    lambdas' and derivatives' blocks, and the scratch array itself. -/
abbrev results (s : Vec F S64x768 .f32) (x : Vec F S1x4096x768 .f32) (b : Vec F S64x1 .f32) :
    Vec F S1x16x4096 .f32 × Vec F S1x16x4096 .f32 × Vec F S1x16x4096 .f32 × Vec F S1x15x4096 .f32 × Vec F S64x768 .f32 :=
  (k0_pay7 s x b, k0_pay8 s x b, k0_pay9 s x b, k0_pay10 s x b, s)

variable (c : Dev nD) (i : grid0.Coords)
  (arg2 : Memref sig .tc .vmem S1x4096x768 .f32) (harg2 : arg2.IsWhole)
  (arg3 : Memref sig .tc .vmem S16x768 .f32) (harg3 : arg3.IsWhole)
  (arg4 : Memref sig .tc .vmem S16x768 .f32) (harg4 : arg4.IsWhole)
  (arg5 : Memref sig .tc .vmem S16x768 .f32) (harg5 : arg5.IsWhole)
  (arg6 : Memref sig .tc .vmem S15x768 .f32) (harg6 : arg6.IsWhole)
  (arg7 : Memref sig .tc .vmem S64x1 .f32) (harg7 : arg7.IsWhole)
  (arg8 : Memref sig .tc .vmem S1x16x4096 .f32) (harg8 : arg8.IsWhole)
  (arg9 : Memref sig .tc .vmem S1x16x4096 .f32) (harg9 : arg9.IsWhole)
  (arg10 : Memref sig .tc .vmem S1x16x4096 .f32) (harg10 : arg10.IsWhole)
  (arg11 : Memref sig .tc .vmem S1x15x4096 .f32) (harg11 : arg11.IsWhole)
  (arg12 : Memref sig .tc .vmem S64x768 .f32) (harg12 : arg12.IsWhole)
  (x0 : Vec F S1x4096x768 .f32) (x1 x2 x3 : Vec F S16x768 .f32) (x4 : Vec F S15x768 .f32) (x5 : Vec F S64x1 .f32)
  (xs0 : Vec F S64x768 .f32)

/-- A later point computes with the scratch array as it finds it, and leaves it as found. -/
theorem point_B (hc : ¬cond0_0 i) :
    (out0_B_6 c i arg2 harg2 arg3 harg3 arg4 harg4 arg5 harg5 arg6 harg6 arg7 harg7 arg8 harg8 arg9 harg9 arg10 harg10 arg11 harg11
        arg12 harg12 hc x0 x1 x2 x3 x4 x5 xs0,
     out0_B_7 c i arg2 harg2 arg3 harg3 arg4 harg4 arg5 harg5 arg6 harg6 arg7 harg7 arg8 harg8 arg9 harg9 arg10 harg10 arg11 harg11
        arg12 harg12 hc x0 x1 x2 x3 x4 x5 xs0,
     out0_B_8 c i arg2 harg2 arg3 harg3 arg4 harg4 arg5 harg5 arg6 harg6 arg7 harg7 arg8 harg8 arg9 harg9 arg10 harg10 arg11 harg11
        arg12 harg12 hc x0 x1 x2 x3 x4 x5 xs0,
     out0_B_9 c i arg2 harg2 arg3 harg3 arg4 harg4 arg5 harg5 arg6 harg6 arg7 harg7 arg8 harg8 arg9 harg9 arg10 harg10 arg11 harg11
        arg12 harg12 hc x0 x1 x2 x3 x4 x5 xs0,
     sout0_B_0 c i arg2 harg2 arg3 harg3 arg4 harg4 arg5 harg5 arg6 harg6 arg7 harg7 arg8 harg8 arg9 harg9 arg10 harg10 arg11 harg11
        arg12 harg12 hc x0 x1 x2 x3 x4 x5 xs0)
      = results xs0 x0 x5 := by
  refine congrArg₂ Prod.mk ((View.read_writes_eq_canon _ _ _ fun y => cover0_B_6 (y := y) ..).trans ?_)
    (congrArg₂ Prod.mk ((View.read_writes_eq_canon _ _ _ fun y => cover0_B_7 (y := y) ..).trans ?_)
    (congrArg₂ Prod.mk ((View.read_writes_eq_canon _ _ _ fun y => cover0_B_8 (y := y) ..).trans ?_)
    (congrArg₂ Prod.mk ((View.read_writes_eq_canon _ _ _ fun y => cover0_B_9 (y := y) ..).trans ?_) rfl)))
  all_goals
    unfold kernelRun0_B
    dsimp only
    sl_unfold_words
    rw [View.canon_unit_zero hz3]
    simp only [View.readAt_eq_ld, harg2.read_unread, harg7.read_unread, harg12.read_unread,
      View.ld_unit_zero (S := S1x4096x768) hz3, View.ld_unit_zero (S := S64x1) hz2, View.ld_unit_zero (S := S64x768) hz2]

/-- The first point fills the scratch array with the stacked weights, and computes with them. -/
theorem point_A (hc : cond0_0 i) :
    (out0_A_6 c i arg2 harg2 arg3 harg3 arg4 harg4 arg5 harg5 arg6 harg6 arg7 harg7 arg8 harg8 arg9 harg9 arg10 harg10 arg11 harg11
        arg12 harg12 hc x0 x1 x2 x3 x4 x5,
     out0_A_7 c i arg2 harg2 arg3 harg3 arg4 harg4 arg5 harg5 arg6 harg6 arg7 harg7 arg8 harg8 arg9 harg9 arg10 harg10 arg11 harg11
        arg12 harg12 hc x0 x1 x2 x3 x4 x5,
     out0_A_8 c i arg2 harg2 arg3 harg3 arg4 harg4 arg5 harg5 arg6 harg6 arg7 harg7 arg8 harg8 arg9 harg9 arg10 harg10 arg11 harg11
        arg12 harg12 hc x0 x1 x2 x3 x4 x5,
     out0_A_9 c i arg2 harg2 arg3 harg3 arg4 harg4 arg5 harg5 arg6 harg6 arg7 harg7 arg8 harg8 arg9 harg9 arg10 harg10 arg11 harg11
        arg12 harg12 hc x0 x1 x2 x3 x4 x5,
     sout0_A_0 c i arg2 harg2 arg3 harg3 arg4 harg4 arg5 harg5 arg6 harg6 arg7 harg7 arg8 harg8 arg9 harg9 arg10 harg10 arg11 harg11
        arg12 harg12 hc x0 x1 x2 x3 x4 x5)
      = results (stack x1 x2 x3 x4) x0 x5 := by
  refine congrArg₂ Prod.mk ((View.read_writes_eq_canon _ _ _ fun y => cover0_A_6 (y := y) ..).trans ?_)
    (congrArg₂ Prod.mk ((View.read_writes_eq_canon _ _ _ fun y => cover0_A_7 (y := y) ..).trans ?_)
    (congrArg₂ Prod.mk ((View.read_writes_eq_canon _ _ _ fun y => cover0_A_8 (y := y) ..).trans ?_)
    (congrArg₂ Prod.mk ((View.read_writes_eq_canon _ _ _ fun y => cover0_A_9 (y := y) ..).trans ?_)
    ((View.read_writes_eq_canon _ _ _ fun y => scover0_A_0 (y := y) ..).trans ?_))))
  all_goals
    unfold kernelRun0_A
    dsimp only
    sl_unfold_words
    try rw [View.canon_unit_zero hz3]
    simp only [View.readAt_eq_ld, harg2.read_unread, harg3.read_unread, harg4.read_unread, harg5.read_unread,
      harg6.read_unread, harg7.read_unread, View.ld_unit_zero (S := S16x768) hz2, View.ld_unit_zero (S := S15x768) hz2,
      View.ld_unit_zero (S := S1x4096x768) hz3, View.ld_unit_zero (S := S64x1) hz2,
      k0_pay1, k0_pay2, k0_pay3, k0_pay4, shapeCast_self]
    first
      | exact canon_fill x1 x2 x3 x4
      | rw [readCov_fill arg12.view x1 x2 x3 x4]

end Cert.KernelIdeal.Body

end
-- ==== Proof.Arrays.lean ====
/-
  THE FOUR ARRAYS THE KERNEL FILLS.

  The grid has 4 x 2 points; point `t` works on sequence `t / 2` and on half `t % 2` of its 8192 positions. The scratch array
  holds the stacked weights after every point: the first point fills it and no later point writes it. So every point stores
  the four heads of its block of `conditioning`, and the blocks of all points together cover the four arrays. Each array ends
  as `scores` of its head's weights and biases.
-/
module

public import proofs.«01_k».proof.Proof.Body
public import Idealize.ShloMosaic.Lib.Pipeline.ValueKit.Point
public import Idealize.ShloMosaic.Lib.StableHlo.Run
public import Idealize.ShloMosaic.Lib.Tactic

@[expose] public section

set_option maxRecDepth 16384

noncomputable section

open Idealize.ShloMosaic hiding ix1 ix2 ix3
open Idealize.ShloMosaic.TcCoe Idealize.SL.Sem
open Idealize.ShloMosaic.ValueIdx

namespace Cert.KernelIdeal.Arrays

open Cert.KernelIdeal Cert.KernelIdeal.Gen Cert.KernelIdeal.Stack Cert.KernelIdeal.Body

section AnyFloat

variable {F : FTy → Type} [FloatOps F]
variable (m : (ℓ : Loc nD τ sig) → Buf (Elt F) ℓ) (c : Dev nD)

/-! ## The input blocks -/

/-- The stacked weights of the four argument matrices. -/
abbrev weights : Vec F S64x768 .f32 :=
  stack (m (c.tc.loc main_arg1)) (m (c.tc.loc main_arg3)) (m (c.tc.loc main_arg7)) (m (c.tc.loc main_arg5))

/-- The column of stacked biases, as computed before the grid runs. -/
abbrev biases : Vec F S64x1 .f32 := V m c main_v2

/-- A block at index zero on both axes starts at zero, whatever its sizes. -/
theorem start_zero (s : Fin 2 → Nat) : (fun a => (![0, 0] : Fin 2 → Nat) a * s a) = fun _ => 0 :=
  funext fun a => by fin_cases a <;> exact Nat.zero_mul _

/-- Such a block of the array's own sizes lies inside the array. -/
theorem start_inside (s : Fin 2 → Nat) (a : Fin 2) : (![0, 0] : Fin 2 → Nat) a * s a + s a ≤ s a :=
  (congrArg (· + s a) (congrFun (start_zero s) a)).trans_le (Nat.zero_add _).le

/-- The widths' weights are read whole at every point. -/
theorem iblk_1 (t : Fin cfg0.N) : (iblk m c 1 t : Vec F S16x768 .f32) = m (c.tc.loc main_arg1) :=
  (Memref.read_access_unit_zero (Elt F) main_arg1 (start_zero _) (start_inside _) (V m c main_arg1)).trans (V_main_arg1 m c)

/-- The heights' weights are read whole at every point. -/
theorem iblk_2 (t : Fin cfg0.N) : (iblk m c 2 t : Vec F S16x768 .f32) = m (c.tc.loc main_arg3) :=
  (Memref.read_access_unit_zero (Elt F) main_arg3 (start_zero _) (start_inside _) (V m c main_arg3)).trans (V_main_arg3 m c)

/-- The lambdas' weights are read whole at every point. -/
theorem iblk_3 (t : Fin cfg0.N) : (iblk m c 3 t : Vec F S16x768 .f32) = m (c.tc.loc main_arg7) :=
  (Memref.read_access_unit_zero (Elt F) main_arg7 (start_zero _) (start_inside _) (V m c main_arg7)).trans (V_main_arg7 m c)

/-- The derivatives' weights are read whole at every point. -/
theorem iblk_4 (t : Fin cfg0.N) : (iblk m c 4 t : Vec F S15x768 .f32) = m (c.tc.loc main_arg5) :=
  (Memref.read_access_unit_zero (Elt F) main_arg5 (start_zero _) (start_inside _) (V m c main_arg5)).trans (V_main_arg5 m c)

/-- The stacked biases are read whole at every point. -/
theorem iblk_5 (t : Fin cfg0.N) : (iblk m c 5 t : Vec F S64x1 .f32) = biases m c :=
  Memref.read_access_unit_zero (Elt F) main_v2 (start_zero _) (start_inside _) (V m c main_v2)

/-- Point `t` reads `conditioning` at sequence `t / 2`, half `t % 2`. -/
theorem index_0 : ∀ t : Fin grid0.N, win0_0.index t 0 = t.val / 2 ∧ win0_0.index t 1 = t.val % 2 ∧ win0_0.index t 2 = 0 := by
  decide +kernel

/-- An element of the point's input block is the element of `conditioning` at the block's sequence and position. -/
theorem iblk_0_apply (t : Fin cfg0.N) (y : Fin 4096) (k : Fin 768) (b : Fin 4) (p : Fin 8192)
    (hb : b.val = t.val / 2) (hp : p.val = t.val % 2 * 4096 + y.val) :
    (iblk m c 0 t : Vec F S1x4096x768 .f32) (ix3 0 y k) = m (c.tc.loc main_arg0) (ix3 b p k) := by
  obtain ⟨h0, h1, h2⟩ := index_0 t
  refine Eq.trans ?_ (congrFun (V_main_arg0 m c) (ix3 b p k))
  show V m c main_arg0 _ = V m c main_arg0 _
  refine congrArg _ (funext fun a => Fin.ext ?_)
  match a with
  | ⟨0, _⟩ => show win0_0.index t 0 * 1 + 1 * 0 = b.val; rw [h0]; omega
  | ⟨1, _⟩ => show win0_0.index t 1 * 4096 + 1 * y.val = p.val; rw [h1]; omega
  | ⟨2, _⟩ => show win0_0.index t 2 * 768 + 1 * k.val = k.val; rw [h2]; omega

/-! ## What every point leaves -/

/-- After every point the scratch array holds the stacked weights, and the four blocks are computed from them. -/
theorem point_eq : ∀ (n : ℕ) (h : n < cfg0.N),
    outsAt0 m c n h = results (weights m c) (iblk m c 0 ⟨n, h⟩) (biases m c)
  | 0, h => by
    refine (outsAt0_A m c ⟨0, h⟩ rfl).trans ((point_A ..).trans ?_)
    rw [iblk_1, iblk_2, iblk_3, iblk_4, iblk_5]
  | n + 1, h => by
    have hN : cfg0.N = 8 := N_0
    have hB : ¬(⟨n + 1, h⟩ : Fin cfg0.N).val % 8 = 0 := by dsimp only; omega
    refine (outsAt0_B m c ⟨n + 1, h⟩ hB).trans ((point_B ..).trans ?_)
    have ih : (outsAt0 m c n (Nat.lt_of_succ_lt h)).2.2.2.2 = weights m c := by rw [point_eq n]
    rw [iblk_5]
    exact congrArg (fun s => results s _ _) ih

/-! ## The stacked biases, read at a row -/

/-- The five vectors laid end to end: the four heads' biases, and one zero. -/
abbrev parts : List ((s : Shape) × (s.Idx → Elt F .f32)) :=
  [⟨S16, m (c.tc.loc main_arg2)⟩, ⟨S16, m (c.tc.loc main_arg4)⟩, ⟨S16, m (c.tc.loc main_arg8)⟩,
   ⟨S15, m (c.tc.loc main_arg6)⟩, ⟨S1, broadcastInDim S1 ![] bcast_S_S1 (constant S_ .f32 0x00000000#32)⟩]

/-- The stacked biases are those vectors, read as a column. -/
theorem biases_eq : biases m c = shapeCast S64x1 (concatenate S64 0 (parts m c) concatenates_S16_S16_S16_S15_S1_S64_d0)
    shapeCasts_S64_S64x1 := by
  show StableHlo.after hostOps0 (fun b => m (c, b)) (Proc.devRef .tc main_v2) = _
  after_results
  rfl

/-- Row `pre + r` of the stacked biases, where `pre` elements come before vector number `k`, is element `r` of that vector. -/
theorem biases_apply {n : Nat} (k : Nat) (hk : k < (parts m c).length) (β : (⟨1, ![n]⟩ : Shape).Idx → Elt F .f32)
    (hx : (parts m c)[k] = ⟨⟨1, ![n]⟩, β⟩) (pre : Nat)
    (hpre : ((((parts m c).take k).map (·.1)).map fun s => if h : s.rank = S64.rank then s.size ((0 : Fin 1).cast h.symm) else 0).sum = pre)
    (R : Fin 64) (r : Fin n) (hR : R.val = pre + r.val) : biases m c (ix2 R 0) = β (ix1 r) := by
  rw [biases_eq]
  refine (shapeCast_apply _ shapeCasts_S64_S64x1 (ix2 R 0) (ix1 R) ?_).trans ?_
  · rw [Shape.rowMajor_val_one, Shape.rowMajor_val_two]
    show R.val = R.val * 1 + 0
    omega
  · exact concatenate_apply_piece 0 (parts m c) _ (ix1 R) k hk ⟨1, ![n]⟩ β hx rfl pre hpre (ix1 r)
      (fun b hb => absurd (Subsingleton.elim (α := Fin 1) _ _) hb) hR.symm

end AnyFloat

/-! ## The arrays over the extended reals -/

variable (m : (ℓ : Loc nD τ sig) → Buf (Elt Ideal) ℓ) (c : Dev nD)

/-- One head, laid out as the kernel stores it: at sequence `b`, output row `r` and position `p`, the sum over the 768 channels
    of the row's weights times the position's inputs, plus the row's bias. -/
def scores {n : Nat} (W : Vec Ideal ⟨2, ![n, 768]⟩ .f32) (β : Vec Ideal ⟨1, ![n]⟩ .f32) (X : Vec Ideal S4x8192x768 .f32) :
    Vec Ideal ⟨3, ![4, n, 8192]⟩ .f32 :=
  fun i => (∑ k : Fin 768, W (ix2 (i 1) k) * X (ix3 (i 0) (i 2) k)) + β (ix1 (i 1))

/-- Where a block of `n` rows and 4096 positions must lie in its array when point `t` writes it: at sequence `t / 2`, from
    row 0, in half `t % 2` of the positions. -/
abbrev Placed (t : Fin cfg0.N) (index : Fin 3 → Nat) : Prop := index 0 = t.val / 2 ∧ index 1 = 0 ∧ index 2 = t.val % 2

/-- Every point places its block so in each of the four arrays. -/
theorem placed : ∀ t : Fin grid0.N, Placed t (win0_6.index t) ∧ Placed t (win0_7.index t) ∧ Placed t (win0_8.index t)
    ∧ Placed t (win0_9.index t) := by
  decide +kernel

/-- If rows `off` onwards of the stacked weights and biases are those of one head, and point `t` writes rows `off` onwards of
    the product it computes to a block placed as above, then what it writes at `i` is the head's score at `i`. -/
theorem block_eq_scores {n : Nat} (off : Nat) (W : Vec Ideal ⟨2, ![n, 768]⟩ .f32) (β : Vec Ideal ⟨1, ![n]⟩ .f32)
    (hW : ∀ (R : Fin 64) (r : Fin n) (k : Fin 768), R.val = off + r.val → weights m c (ix2 R k) = W (ix2 r k))
    (hβ : ∀ (R : Fin 64) (r : Fin n), R.val = off + r.val → biases m c (ix2 R 0) = β (ix1 r)) (hn : off + n ≤ 64)
    (t : Fin cfg0.N) {index : Fin 3 → Nat} (hp : Placed t index) (block : Vec Ideal ⟨3, ![1, n, 4096]⟩ .f32)
    (hs : ∀ (j : (⟨3, ![1, n, 4096]⟩ : Shape).Idx) (R : Fin 64), R.val = off + (j 1).val →
      block j = k0_pay6 (weights m c) (iblk m c 0 t) (biases m c) (ix2 R (j 2)))
    (y : (⟨3, ![1, n, 4096]⟩ : Shape).Idx) (i : (⟨3, ![4, n, 8192]⟩ : Shape).Idx)
    (hi : ∀ a, (i a).val = index a * (![1, n, 4096] : Fin 3 → Nat) a + 1 * (y a).val) :
    block y = scores W β (m (c.tc.loc main_arg0)) i := by
  obtain ⟨p0, p1, p2⟩ := hp
  have y0 : (y 0).val < 1 := (y 0).isLt
  have y1 : (y 1).val < n := (y 1).isLt
  have h0 : (i 0).val = index 0 * 1 + 1 * (y 0).val := hi 0
  have h1 : (i 1).val = index 1 * n + 1 * (y 1).val := hi 1
  have h2 : (i 2).val = index 2 * 4096 + 1 * (y 2).val := hi 2
  rw [p0] at h0
  rw [p1, Nat.zero_mul] at h1
  rw [p2] at h2
  have hR : off + (y 1).val = off + (i 1).val := by omega
  refine (hs y ⟨off + (y 1).val, by omega⟩ rfl).trans ((product_apply (weights m c) (iblk m c 0 t) (biases m c) _ (y 2)).trans ?_)
  exact congrArg₂ (· + ·) (Finset.sum_congr rfl fun k _ => congrArg₂ (· * ·) (hW _ (i 1) k hR)
    (iblk_0_apply m c t (y 2) k (i 0) (i 2) (by omega) (by omega))) (hβ _ (i 1) hR)

/-- The first array ends as the widths' scores. -/
theorem final_w : (dats m 0 c).arrAt 6 cfg0.N
    = scores (m (c.tc.loc main_arg1)) (m (c.tc.loc main_arg2)) (m (c.tc.loc main_arg0)) := by
  refine (dats m 0 c).arrAt_eq_of_covers 6 _ (by decide +kernel) fun t _ y => ?_
  rw [after0_6, point_eq]
  refine block_eq_scores m c 0 _ _ (fun _ r k h => stack_w _ _ _ _ _ r k h rfl)
    (biases_apply m c 0 (by decide : 0 < 5) _ rfl 0 rfl) (by decide) t (placed t).1
    (k0_pay7 (weights m c) (iblk m c 0 t) (biases m c)) (slice_w _ _ _) y _ ?_
  exact fun _ => rfl

/-- The second array ends as the heights' scores. -/
theorem final_h : (dats m 0 c).arrAt 7 cfg0.N
    = scores (m (c.tc.loc main_arg3)) (m (c.tc.loc main_arg4)) (m (c.tc.loc main_arg0)) := by
  refine (dats m 0 c).arrAt_eq_of_covers 7 _ (by decide +kernel) fun t _ y => ?_
  rw [after0_7, point_eq]
  refine block_eq_scores m c 16 _ _ (fun _ r k h => stack_h _ _ _ _ _ r k h rfl)
    (biases_apply m c 1 (by decide : 1 < 5) _ rfl 16 rfl) (by decide) t (placed t).2.1
    (k0_pay8 (weights m c) (iblk m c 0 t) (biases m c)) (slice_h _ _ _) y _ ?_
  exact fun _ => rfl

/-- The third array ends as the lambdas' scores. -/
theorem final_l : (dats m 0 c).arrAt 8 cfg0.N
    = scores (m (c.tc.loc main_arg7)) (m (c.tc.loc main_arg8)) (m (c.tc.loc main_arg0)) := by
  refine (dats m 0 c).arrAt_eq_of_covers 8 _ (by decide +kernel) fun t _ y => ?_
  rw [after0_8, point_eq]
  refine block_eq_scores m c 32 _ _ (fun _ r k h => stack_l _ _ _ _ _ r k h rfl)
    (biases_apply m c 2 (by decide : 2 < 5) _ rfl 32 rfl) (by decide) t (placed t).2.2.1
    (k0_pay9 (weights m c) (iblk m c 0 t) (biases m c)) (slice_l _ _ _) y _ ?_
  exact fun _ => rfl

/-- The fourth array ends as the derivatives' scores. -/
theorem final_d : (dats m 0 c).arrAt 9 cfg0.N
    = scores (m (c.tc.loc main_arg5)) (m (c.tc.loc main_arg6)) (m (c.tc.loc main_arg0)) := by
  refine (dats m 0 c).arrAt_eq_of_covers 9 _ (by decide +kernel) fun t _ y => ?_
  rw [after0_9, point_eq]
  refine block_eq_scores m c 48 _ _ (fun _ r k h => stack_d _ _ _ _ _ r k h rfl)
    (biases_apply m c 3 (by decide : 3 < 5) _ rfl 48 rfl) (by decide) t (placed t).2.2.2
    (k0_pay10 (weights m c) (iblk m c 0 t) (biases m c)) (slice_d _ _ _) y _ ?_
  exact fun _ => rfl

end Cert.KernelIdeal.Arrays

end
-- ==== Proof.Results.lean ====
/-
  THE RESULTS OF THE TWO PROGRAMS.

  `logits` is one head as the reference defines it: at sequence `b`, position `p` and output `r`, the sum over the 768
  channels of `conditioning[b, p, k] * W[r, k]`, plus `bias[r]`. After its grid the kernel program swaps the last two axes of
  each array it filled, which turns the scores into those logits. The reference program computes them directly.
-/
module

public import proofs.«01_k».proof.Proof.Arrays
public import proofs.«01_k».proof.Proof.Gen.ReferenceIdeal.Run
public import proofs.«01_k».proof.Proof.Gen.ReferenceIdeal.Read

@[expose] public section

set_option maxRecDepth 16384

noncomputable section

open Idealize.ShloMosaic hiding ix1 ix2 ix3
open Idealize.ShloMosaic.TcCoe Idealize.SL.Sem
open Idealize.ShloMosaic.ValueIdx

/-! ## One head -/

namespace Cert.Heads

/-- One head: `conditioning` times the transposed weights, plus the bias of the output. -/
def logits {n : Nat} (W : Vec Ideal ⟨2, ![n, 768]⟩ .f32) (β : Vec Ideal ⟨1, ![n]⟩ .f32)
    (X : Vec Ideal ⟨3, ![4, 8192, 768]⟩ .f32) : Vec Ideal ⟨3, ![4, 8192, n]⟩ .f32 :=
  fun i => (∑ k : Fin 768, X (ix3 (i 0) (i 1) k) * W (ix2 (i 2) k)) + β (ix1 (i 2))

end Cert.Heads

/-! ## The kernel program -/

namespace Cert.KernelIdeal.Results

open Cert.KernelIdeal Cert.KernelIdeal.Gen Cert.KernelIdeal.Arrays Cert.Heads

/-- Swapping the last two axes of a head's scores gives its logits: the two factors of each product change places. -/
theorem transpose_scores {n : Nat} (W : Vec Ideal ⟨2, ![n, 768]⟩ .f32) (β : Vec Ideal ⟨1, ![n]⟩ .f32)
    (X : Vec Ideal S4x8192x768 .f32) (h : (⟨3, ![4, n, 8192]⟩ : Shape).Transposes [0, 2, 1] ⟨3, ![4, 8192, n]⟩) :
    transpose ⟨3, ![4, 8192, n]⟩ [0, 2, 1] (scores W β X) h = logits W β X := by
  funext i
  refine (transpose_apply [0, 2, 1] (scores W β X) h i (ix3 (i 0) (i 2) (i 1)) fun b => ?_).trans ?_
  · match b with
    | ⟨0, _⟩ => rfl
    | ⟨1, _⟩ => rfl
    | ⟨2, _⟩ => rfl
  · exact congrArg (· + β (ix1 (i 2))) (Finset.sum_congr rfl fun k _ => mul_comm (W (ix2 (i 2) k)) (X (ix3 (i 0) (i 1) k)))

variable (m : (ℓ : Loc nD τ sig) → Buf (Elt Ideal) ℓ) (ρ : Dev nD → PrngReg) (c : Dev nD)

/-- The windows read and write ten different arrays. -/
theorem arrays_distinct : Function.Injective (Pipeline.arrRef spec0) := by
  intro a b h
  revert a b
  decide +kernel

/-- What the buffers hold once the grid has run: each window's array as the grid left it. -/
abbrev afterGrid : Valuation τ sig (Elt Ideal) :=
  Pipeline.withArrays (cfgs 0).spec c (V0 m c) fun w => (dats m 0 c).arrAt w (cfgs 0).N

/-- A window's array there is what the grid left. -/
theorem afterGrid_array (w : Fin 10) : afterGrid m c (Proc.devRef .tc (Pipeline.arrRef spec0 w)) = (dats m 0 c).arrAt w cfg0.N :=
  Pipeline.withArrays_arr spec0 arrays_distinct c _ _ w

/-- A result that is an array of scores with its last two axes swapped is that head's logits. -/
theorem swapped {n : Nat} {W : Vec Ideal ⟨2, ![n, 768]⟩ .f32} {β : Vec Ideal ⟨1, ![n]⟩ .f32} {X : Vec Ideal S4x8192x768 .f32}
    {A : Vec Ideal ⟨3, ![4, n, 8192]⟩ .f32} {R : Vec Ideal ⟨3, ![4, 8192, n]⟩ .f32}
    (h : (⟨3, ![4, n, 8192]⟩ : Shape).Transposes [0, 2, 1] ⟨3, ![4, 8192, n]⟩)
    (hR : R = transpose ⟨3, ![4, 8192, n]⟩ [0, 2, 1] A h) (hA : A = scores W β X) : R = logits W β X := by
  rw [hR, hA, transpose_scores]

/-- The first result is the widths. -/
theorem result_w : Pipeline.afterTail₀ cfgs (dats m) 0 (V0 m) [hostOps1] c main_v4
    = logits (m (c.tc.loc main_arg1)) (m (c.tc.loc main_arg2)) (m (c.tc.loc main_arg0)) := by
  refine swapped transposes_S4x16x8192_S4x8192x16_0_2_1 ?_ ((afterGrid_array m c 6).trans (final_w m c))
  show StableHlo.after hostOps1 (afterGrid m c) (Proc.devRef .tc main_v4) = _
  generalize afterGrid m c = U
  after_results

/-- The second result is the heights. -/
theorem result_h : Pipeline.afterTail₀ cfgs (dats m) 0 (V0 m) [hostOps1] c main_v5
    = logits (m (c.tc.loc main_arg3)) (m (c.tc.loc main_arg4)) (m (c.tc.loc main_arg0)) := by
  refine swapped transposes_S4x16x8192_S4x8192x16_0_2_1 ?_ ((afterGrid_array m c 7).trans (final_h m c))
  show StableHlo.after hostOps1 (afterGrid m c) (Proc.devRef .tc main_v5) = _
  generalize afterGrid m c = U
  after_results

/-- The third result is the derivatives. -/
theorem result_d : Pipeline.afterTail₀ cfgs (dats m) 0 (V0 m) [hostOps1] c main_v6
    = logits (m (c.tc.loc main_arg5)) (m (c.tc.loc main_arg6)) (m (c.tc.loc main_arg0)) := by
  refine swapped transposes_S4x15x8192_S4x8192x15_0_2_1 ?_ ((afterGrid_array m c 9).trans (final_d m c))
  show StableHlo.after hostOps1 (afterGrid m c) (Proc.devRef .tc main_v6) = _
  generalize afterGrid m c = U
  after_results

/-- The fourth result is the lambdas. -/
theorem result_l : Pipeline.afterTail₀ cfgs (dats m) 0 (V0 m) [hostOps1] c main_v7
    = logits (m (c.tc.loc main_arg7)) (m (c.tc.loc main_arg8)) (m (c.tc.loc main_arg0)) := by
  refine swapped transposes_S4x16x8192_S4x8192x16_0_2_1 ?_ ((afterGrid_array m c 8).trans (final_l m c))
  show StableHlo.after hostOps1 (afterGrid m c) (Proc.devRef .tc main_v7) = _
  generalize afterGrid m c = U
  after_results

/-- Every run of the kernel program ends with its four results at the four heads' logits. -/
theorem run : θ_run defs (onTc (τ := τ) (main (F := Ideal))) ⟨m, fun _ => 0, ρ⟩ fun r => ∀ c : Dev nD,
      r.2.mem (c.tc.loc main_v4) = logits (m (c.tc.loc main_arg1)) (m (c.tc.loc main_arg2)) (m (c.tc.loc main_arg0))
      ∧ r.2.mem (c.tc.loc main_v5) = logits (m (c.tc.loc main_arg3)) (m (c.tc.loc main_arg4)) (m (c.tc.loc main_arg0))
      ∧ r.2.mem (c.tc.loc main_v6) = logits (m (c.tc.loc main_arg5)) (m (c.tc.loc main_arg6)) (m (c.tc.loc main_arg0))
      ∧ r.2.mem (c.tc.loc main_v7) = logits (m (c.tc.loc main_arg7)) (m (c.tc.loc main_arg8)) (m (c.tc.loc main_arg0)) :=
  (θ_run defs _ _).mono (fun _ h c =>
    have rest := fun b hs ha => (h c).2 b (Pipeline.mem_restRefs_of b hs ha)
    ⟨(rest main_v4 (by decide) (by decide)).trans (result_w m c), (rest main_v5 (by decide) (by decide)).trans (result_h m c),
     (rest main_v6 (by decide) (by decide)).trans (result_d m c), (rest main_v7 (by decide) (by decide)).trans (result_l m c)⟩)
    (run_main m ρ)

end Cert.KernelIdeal.Results

/-! ## The reference program -/

namespace Cert.ReferenceIdeal.Results

open Cert.ReferenceIdeal Cert.ReferenceIdeal.Gen Cert.ReferenceIdeal.Read Cert.Heads

variable (X : Vec Ideal S4x8192x768 .f32)

/-- The reference's product and broadcast bias are the logits, for a head of 16 outputs. -/
theorem value_16 (W : Vec Ideal S16x768 .f32) (β : Vec Ideal S16 .f32) : val_main_v4 (F := Ideal) X W β = logits W β X := by
  funext i
  rw [val_main_v4_apply, val_main_v1_apply, val_main_v3_apply, val_main_v2_apply]
  refine congrArg₂ (· + ·) (Finset.sum_congr rfl fun k _ => congrArg₂ (· * ·) ?_ ?_) ?_
  · exact congrArg X (funext fun a => match a with | ⟨0, _⟩ => rfl | ⟨1, _⟩ => rfl | ⟨2, _⟩ => rfl)
  · rw [val_main_v0_apply]
    exact congrArg W (funext fun a => match a with | ⟨0, _⟩ => rfl | ⟨1, _⟩ => rfl)
  · exact congrArg β (funext fun a => match a with | ⟨0, _⟩ => rfl)

/-- The reference's product and broadcast bias are the logits, for the head of 15 outputs. -/
theorem value_15 (W : Vec Ideal S15x768 .f32) (β : Vec Ideal S15 .f32) : val_main_v14 (F := Ideal) X W β = logits W β X := by
  funext i
  rw [val_main_v14_apply, val_main_v11_apply, val_main_v13_apply, val_main_v12_apply]
  refine congrArg₂ (· + ·) (Finset.sum_congr rfl fun k _ => congrArg₂ (· * ·) ?_ ?_) ?_
  · exact congrArg X (funext fun a => match a with | ⟨0, _⟩ => rfl | ⟨1, _⟩ => rfl | ⟨2, _⟩ => rfl)
  · rw [val_main_v10_apply]
    exact congrArg W (funext fun a => match a with | ⟨0, _⟩ => rfl | ⟨1, _⟩ => rfl)
  · exact congrArg β (funext fun a => match a with | ⟨0, _⟩ => rfl)

variable (m : (ℓ : Loc nD τ sig) → Buf (Elt Ideal) ℓ) (ρ : Dev nD → PrngReg)

/-- Every run of the reference program ends with its four results at the four heads' logits. -/
theorem run : θ_run defs (onTc (τ := τ) (main (F := Ideal))) ⟨m, fun _ => 0, ρ⟩ fun r => ∀ c : Dev nD,
      r.2.mem (c.tc.loc main_v4) = logits (m (c.tc.loc main_arg1)) (m (c.tc.loc main_arg2)) (m (c.tc.loc main_arg0))
      ∧ r.2.mem (c.tc.loc main_v9) = logits (m (c.tc.loc main_arg3)) (m (c.tc.loc main_arg4)) (m (c.tc.loc main_arg0))
      ∧ r.2.mem (c.tc.loc main_v14) = logits (m (c.tc.loc main_arg5)) (m (c.tc.loc main_arg6)) (m (c.tc.loc main_arg0))
      ∧ r.2.mem (c.tc.loc main_v19) = logits (m (c.tc.loc main_arg7)) (m (c.tc.loc main_arg8)) (m (c.tc.loc main_arg0)) :=
  (θ_run defs _ _).mono (fun _ h c =>
    ⟨(h c).1.trans (value_16 _ _ _), (h c).2.1.trans (value_16 _ _ _), (h c).2.2.1.trans (value_15 _ _ _),
     (h c).2.2.2.1.trans (value_16 _ _ _)⟩) (Value.run m ρ)

end Cert.ReferenceIdeal.Results

end
-- ==== Proof.lean ====
/-
  The proof of `Cert.Claim` (Defs.lean): the kernel, its ideal and the ideal reference each run to the end, leave their
  arguments as they were and every counter at zero; no rewriting separates the kernel from its ideal; and over the extended
  reals the ideal kernel and the ideal reference end with the same four results.

  The two kernel frames are the generated ones. The value claim reads both programs' runs (Proof/Results.lean), which state
  the results of each as the same function `Cert.Heads.logits` of that program's arguments.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Results
public import Idealize.ShloMosaic.Adequacy
public import Idealize.ShloMosaic.Init

@[expose] public section

noncomputable section

namespace Cert.Proof

open Idealize.ShloMosaic Idealize.SL.Sem Cert.Kernel

/-- The reference ends with its arguments unchanged, and with every counter at zero because it has none. -/
theorem reference_frame : Cert.quiescent_ReferenceIdeal := fun m ρ _ =>
  (θ_run _ _ _).mono (fun r h => ⟨fun c => (h c).2.2.2.2, sem_eq_zero_of_no_sems (by decide) r.2⟩)
    (Cert.ReferenceIdeal.Value.run m ρ)

/-- The ideal kernel and the ideal reference end with equal results: both runs end with the logits of their own arguments,
    and the two programs start from the same arguments. -/
theorem values : Cert.algebraic_KernelIdeal_ReferenceIdeal := by
  intro m ρ m' ρ' _ args
  refine ⟨fun c => Cert.Heads.logits (m (c.tc.loc KernelIdeal.main_arg1)) (m (c.tc.loc KernelIdeal.main_arg2)) (m (c.tc.loc KernelIdeal.main_arg0)),
    fun c => Cert.Heads.logits (m (c.tc.loc KernelIdeal.main_arg3)) (m (c.tc.loc KernelIdeal.main_arg4)) (m (c.tc.loc KernelIdeal.main_arg0)),
    fun c => Cert.Heads.logits (m (c.tc.loc KernelIdeal.main_arg5)) (m (c.tc.loc KernelIdeal.main_arg6)) (m (c.tc.loc KernelIdeal.main_arg0)),
    fun c => Cert.Heads.logits (m (c.tc.loc KernelIdeal.main_arg7)) (m (c.tc.loc KernelIdeal.main_arg8)) (m (c.tc.loc KernelIdeal.main_arg0)),
    (θ_run _ _ _).mono (fun _ h c => ?_)
      (θ_run_and (Cert.KernelIdeal.Results.run m ρ) (Cert.KernelIdeal.Gen.unchanged m ρ)),
    (θ_run _ _ _).mono (fun _ h c => ?_)
      (θ_run_and (Cert.ReferenceIdeal.Results.run m' ρ') (Cert.ReferenceIdeal.Value.run m' ρ'))⟩
  · obtain ⟨w, v, d, l⟩ := h.1 c
    exact ⟨w, v, d, l, h.2 c⟩
  · obtain ⟨w, v, d, l⟩ := h.1 c
    obtain ⟨a0, a1, a2, a3, a4, a5, a6, a7, a8⟩ := args c
    rw [a0, a1, a2] at w
    rw [a0, a3, a4] at v
    rw [a0, a5, a6] at d
    rw [a0, a7, a8] at l
    exact ⟨w, v, d, l, (h.2 c).2.2.2.2⟩

/-- Everything the certificate claims. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, reference_frame, trivial, values⟩

end Cert.Proof

end
